-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_not_negative [hPre_ids_not_negative : Cert.Pre_ids_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_ids_not_negative.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_not_negative [hPre_ids_not_negative : Cert.Pre_ids_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_not_negative.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_ids_not_negative [hKernelIdeal : Cert.KernelIdeal.Facts] [hPre_ids_not_negative : Cert.Pre_ids_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_not_negative m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_ids_not_negative [hReferenceIdeal : Cert.ReferenceIdeal.Facts] [hPre_ids_not_negative : Cert.Pre_ids_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_ids_not_negative [hKernelIdeal : Cert.KernelIdeal.Facts] [hReferenceIdeal : Cert.ReferenceIdeal.Facts] [hPre_ids_not_negative : Cert.Pre_ids_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_ids_not_negative : Cert.Pre_ids_not_negative.Facts),
    quiescent_Kernel (hKernel := hKernel)
    ∧ quiescent_KernelIdeal (hKernelIdeal := hKernelIdeal)
    ∧ quiescent_KernelIdeal_pre_ids_not_negative (hKernelIdeal := hKernelIdeal) (hPre_ids_not_negative := hPre_ids_not_negative)
    ∧ quiescent_ReferenceIdeal (hReferenceIdeal := hReferenceIdeal)
    ∧ quiescent_ReferenceIdeal_pre_ids_not_negative (hReferenceIdeal := hReferenceIdeal) (hPre_ids_not_negative := hPre_ids_not_negative)
    ∧ preserves_Kernel_KernelIdeal
    ∧ algebraic_KernelIdeal_ReferenceIdeal_pre_ids_not_negative (hKernelIdeal := hKernelIdeal) (hReferenceIdeal := hReferenceIdeal) (hPre_ids_not_negative := hPre_ids_not_negative)
-- ==== Pre_ids_not_negative.lean ====
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S16384 32) : IVec S16384 1 :=
  let main_c : IVec S_ 32 := constantI S_ 32 0#32
  let main_v0 : IVec S16384 32 := broadcastInDim S16384 ![] bcast_S_S16384 main_c
  let main_v1 : IVec S16384 1 := cmpi .sge main_arg0 main_v0
  main_v1
-- ==== Kernel.lean ====
abbrev S16384 : Shape := ⟨1, ![16384]⟩
abbrev S1000000 : Shape := ⟨1, ![1000000]⟩
abbrev S31360 : Shape := ⟨1, ![31360]⟩
abbrev S_ : Shape := ⟨0, ![]⟩
abbrev S16 : Shape := ⟨1, ![16]⟩
abbrev S31248 : Shape := ⟨1, ![31248]⟩
abbrev S31312 : Shape := ⟨1, ![31312]⟩

abbrev nBuf : Table → Nat
  | .hbm => 2
  | .local .scVector .vmem => 2
  | _ => 0

abbrev bufTy : (tb : Table) → Fin (nBuf tb) → BufTy
  | .hbm, ⟨0, _⟩ => ⟨S16384, .i32⟩
  | .hbm, ⟨1, _⟩ => ⟨S1000000, .f32⟩
  | .local .scVector .vmem, ⟨0, _⟩ => ⟨S16384, .i32⟩
  | .local .scVector .vmem, ⟨1, _⟩ => ⟨S31360, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c490_i32 : BitVec 32 := 490#32
  let v7 : BitVec 32 := Scalar.addi c0_i32_1 c490_i32
  let c1_i32 : BitVec 32 := 1#32
  ⟨c0_i32_1, v7, c1_i32⟩
def k0_off1 (k0_t1 : Fin k0_t1_loop.trips) (c0_i32_12 : BitVec 32) : Fin 1 → Nat :=
  let c0_i32_1 : BitVec 32 := 0#32
  let c1_i32 : BitVec 32 := 1#32
  let arg7 : BitVec 32 := Scf.iv c0_i32_1 c1_i32 k0_t1
  let c64_i32 : BitVec 32 := 64#32
  let v16 : BitVec 32 := Scalar.muli arg7 c64_i32
  let v17 : BitVec 32 := Scalar.addi v16 c0_i32_12
  let v18 : Index := Scalar.indexCast v17
  ![v18.toNat]
@[reducible] def k0_t2_loop : Scf.Loop 32 :=
  let c0_i32_5 : BitVec 32 := 0#32
  let c256_i32 : BitVec 32 := 256#32
  let v9 : BitVec 32 := Scalar.addi c0_i32_5 c256_i32
  let c1_i32_6 : BitVec 32 := 1#32
  ⟨c0_i32_5, v9, c1_i32_6⟩
def k0_off2 (k0_t2 : Fin k0_t2_loop.trips) : Fin 1 → Nat :=
  let c0_i32_5 : BitVec 32 := 0#32
  let c1_i32_6 : BitVec 32 := 1#32
  let arg7 : BitVec 32 := Scf.iv c0_i32_5 c1_i32_6 k0_t2
  let c64_i32 : BitVec 32 := 64#32
  let v16 : BitVec 32 := Scalar.muli arg7 c64_i32
  let c0_i32_12 : BitVec 32 := 0#32
  let v17 : BitVec 32 := Scalar.addi v16 c0_i32_12
  let v18 : Index := Scalar.indexCast v17
  ![v18.toNat]

def k0_chk1 (v28 : IVec S16 32) : Prop :=
  (∀ a x, ((![v28] : Fin 1 → IVec S16 32) a x).toNat < S31360.size a)
theorem k0_idx1_inb : ∀ (v28 : IVec S16 32) (k0_hw1 : k0_chk1 v28), ∀ a x, ((![v28] : Fin 1 → IVec S16 32) a x).toNat < S31360.size a := fun v28 k0_hw1 => k0_hw1
def k0_off3 (k0_t2 : Fin k0_t2_loop.trips) : Fin 1 → Nat :=
  let c0_i32_5 : BitVec 32 := 0#32
  let c1_i32_6 : BitVec 32 := 1#32
  let arg7 : BitVec 32 := Scf.iv c0_i32_5 c1_i32_6 k0_t2
  let c64_i32 : BitVec 32 := 64#32
  let v16 : BitVec 32 := Scalar.muli arg7 c64_i32
  let c16_i32 : BitVec 32 := 16#32
  let v29 : BitVec 32 := Scalar.addi v16 c16_i32
  let v30 : Index := Scalar.indexCast v29
  ![v30.toNat]

def k0_chk2 (v40 : IVec S16 32) : Prop :=
  (∀ a x, ((![v40] : Fin 1 → IVec S16 32) a x).toNat < S31360.size a)
theorem k0_idx2_inb : ∀ (v40 : IVec S16 32) (k0_hw2 : k0_chk2 v40), ∀ a x, ((![v40] : Fin 1 → IVec S16 32) a x).toNat < S31360.size a := fun v40 k0_hw2 => k0_hw2
def k0_off4 (k0_t2 : Fin k0_t2_loop.trips) : Fin 1 → Nat :=
  let c0_i32_5 : BitVec 32 := 0#32
  let c1_i32_6 : BitVec 32 := 1#32
  let arg7 : BitVec 32 := Scf.iv c0_i32_5 c1_i32_6 k0_t2
  let c64_i32 : BitVec 32 := 64#32
  let v16 : BitVec 32 := Scalar.muli arg7 c64_i32
  let c32_i32 : BitVec 32 := 32#32
  let v41 : BitVec 32 := Scalar.addi v16 c32_i32
  let v42 : Index := Scalar.indexCast v41
  ![v42.toNat]

def k0_chk3 (v52 : IVec S16 32) : Prop :=
  (∀ a x, ((![v52] : Fin 1 → IVec S16 32) a x).toNat < S31360.size a)
theorem k0_idx3_inb : ∀ (v52 : IVec S16 32) (k0_hw3 : k0_chk3 v52), ∀ a x, ((![v52] : Fin 1 → IVec S16 32) a x).toNat < S31360.size a := fun v52 k0_hw3 => k0_hw3
def k0_off5 (k0_t2 : Fin k0_t2_loop.trips) : Fin 1 → Nat :=
  let c0_i32_5 : BitVec 32 := 0#32
  let c1_i32_6 : BitVec 32 := 1#32
  let arg7 : BitVec 32 := Scf.iv c0_i32_5 c1_i32_6 k0_t2
  let c64_i32 : BitVec 32 := 64#32
  let v16 : BitVec 32 := Scalar.muli arg7 c64_i32
  let c48_i32 : BitVec 32 := 48#32
  let v53 : BitVec 32 := Scalar.addi v16 c48_i32
  let v54 : Index := Scalar.indexCast v53
  ![v54.toNat]

def k0_chk4 (v64 : IVec S16 32) : Prop :=
  (∀ a x, ((![v64] : Fin 1 → IVec S16 32) a x).toNat < S31360.size a)
theorem k0_idx4_inb : ∀ (v64 : IVec S16 32) (k0_hw4 : k0_chk4 v64), ∀ a x, ((![v64] : Fin 1 → IVec S16 32) a x).toNat < S31360.size a := fun v64 k0_hw4 => k0_hw4
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_8 : BitVec 32 := 31#32
  let v10 : BitVec 1 := Scalar.cmpi .slt v1 c31_i32_8
  let v11 : BitVec 32 := Scalar.extui v10
  let c0_i32_9 : BitVec 32 := 0#32
  let v12 : BitVec 1 := Scalar.cmpi .ne v11 c0_i32_9
  v12

def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31248_i32 : BitVec 32 := 31248#32
  let v2 : BitVec 32 := Scalar.muli v1 c31248_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S_ : Shape := ⟨0, ![]⟩
abbrev S1000000 : Shape := ⟨1, ![1000000]⟩
abbrev S16384x1 : Shape := ⟨2, ![16384, 1]⟩

abbrev nBuf : Space → Nat
  | .hbm => 17
  | .vmem => 0
  | .smem => 0
  | _ => 0

abbrev bufTy : (tb : Table) → Fin (tcTables nBuf tb) → BufTy
  | .hbm, ⟨0, _⟩ => ⟨S16384, .i32⟩
  | .hbm, ⟨1, _⟩ => ⟨S_, .f32⟩
  | .hbm, ⟨2, _⟩ => ⟨S1000000, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S_, .f32⟩
  | .hbm, ⟨12, _⟩ => ⟨S16384, .f32⟩
  | .hbm, ⟨13, _⟩ => ⟨S1000000, .f32⟩
  | .hbm, ⟨14, _⟩ => ⟨S_, .f32⟩
  | .hbm, ⟨15, _⟩ => ⟨S1000000, .f32⟩
  | .hbm, ⟨16, _⟩ => ⟨S1000000, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.Marks.lean ====
/-
  Which elements of a task's block the identifiers mark, and what one masked indexed store of a constant does to such a block. No memory, no
  program: functions on index types only, at any element type, so that both printed kernels' proofs use them.
-/
module

public import proofs.«01_k».proof.Defs
public import Idealize.ShloMosaic.Lib.Tactic

@[expose] public section

namespace Cert.Proof.Marks

open Idealize.ShloMosaic

/-- The shapes of the identifiers, of a task's block of the mask, of one vector register and of the whole mask. -/
abbrev Ids : Shape := ⟨1, ![16384]⟩
abbrev Block : Shape := ⟨1, ![31360]⟩
abbrev Lanes : Shape := ⟨1, ![16]⟩
abbrev Mask : Shape := ⟨1, ![1000000]⟩

/-! ## The masked indexed store of one constant -/

section Store

variable {F : FTy → Type} [FloatOps F] {s : Shape} {e : EltTy} {d : Fin 1 → ℕ}

/-- The index vectors' lane `x` names element `j`, and its mask bit is set. -/
def Hits (idxs : Fin s.rank → IVec ⟨1, d⟩ 32) (mask : IVec ⟨1, d⟩ 1) (j : s.Idx) (x : (⟨1, d⟩ : Shape).Idx) : Prop :=
  mask x = 1 ∧ ∀ a, (j a).val = (idxs a x).toNat

/-- What one lane's step does to element `j` of the contents `g`: the constant `y` where the lane hits, nothing elsewhere. -/
def Puts (idxs : Fin s.rank → IVec ⟨1, d⟩ 32) (y : Elt F e) (mask : IVec ⟨1, d⟩ 1) (put : Vec F s e → Fin (d 0) → Vec F s e) : Prop :=
  ∀ g k j, (Hits idxs mask j (Shape.ofLane (d := d) k) → put g k j = y) ∧ (¬ Hits idxs mask j (Shape.ofLane (d := d) k) → put g k j = g j)

/-- Storing the constant over a list of lanes changes no element that no lane of the list hits. -/
theorem foldl_miss {idxs : Fin s.rank → IVec ⟨1, d⟩ 32} {y : Elt F e} {mask : IVec ⟨1, d⟩ 1} {put : Vec F s e → Fin (d 0) → Vec F s e}
    (hp : Puts idxs y mask put) (j : s.Idx) (l : List (Fin (d 0))) : ∀ f : Vec F s e,
    (∀ k ∈ l, ¬ Hits idxs mask j (Shape.ofLane (d := d) k)) → l.foldl put f j = f j := by
  induction l with
  | nil => intro f _; rfl
  | cons k l ih =>
    intro f hl
    exact (ih _ fun k' hk' => hl k' (List.mem_cons_of_mem _ hk')).trans ((hp f k j).2 (hl k List.mem_cons_self))

/-- Storing the constant over a list of lanes leaves it at every element that some lane of the list hits. -/
theorem foldl_hit {idxs : Fin s.rank → IVec ⟨1, d⟩ 32} {y : Elt F e} {mask : IVec ⟨1, d⟩ 1} {put : Vec F s e → Fin (d 0) → Vec F s e}
    (hp : Puts idxs y mask put) (j : s.Idx) (l : List (Fin (d 0))) : ∀ f : Vec F s e,
    (∃ k ∈ l, Hits idxs mask j (Shape.ofLane (d := d) k)) → l.foldl put f j = y := by
  induction l with
  | nil => rintro f ⟨k, hk, -⟩; cases hk
  | cons k l ih =>
    intro f hl
    by_cases ht : ∃ k ∈ l, Hits idxs mask j (Shape.ofLane (d := d) k)
    · exact ih _ ht
    · refine (foldl_miss hp j l _ fun k' hk' h' => ht ⟨k', hk', h'⟩).trans ?_
      obtain ⟨k', hk', h'⟩ := hl
      obtain rfl : k' = k := (List.mem_cons.mp hk').resolve_right fun hk' => ht ⟨k', hk', h'⟩
      exact (hp f k' j).1 h'

open Classical in
/-- A masked indexed store of the constant `y`: `y` at every element that some lane with its mask bit set names, the old elements elsewhere. -/
theorem storeIdx_const (f : Vec F s e) (idxs : Fin s.rank → IVec ⟨1, d⟩ 32) (y : Elt F e) (mask : IVec ⟨1, d⟩ 1)
    (h : ∀ a x, (idxs a x).toNat < s.size a) (j : s.Idx) :
    storeIdx f idxs (fun _ => y) mask false h j = if ∃ x, Hits idxs mask j x then y else f j := by
  unfold storeIdx
  generalize hput : (fun (g : Vec F s e) (k : Fin (d 0)) => _) = put
  have hp : Puts idxs y mask put := by
    rintro g k i
    rw [← hput]
    dsimp only
    constructor
    · intro hk
      rw [if_pos hk.1]
      exact if_pos hk.2
    · intro hk
      by_cases hm : mask (Shape.ofLane (d := d) k) = 1
      · rw [if_pos hm]
        exact if_neg fun hi => hk ⟨hm, hi⟩
      · rw [if_neg hm]
  split_ifs with hx
  · obtain ⟨x, hx⟩ := hx
    refine foldl_hit hp j _ f ⟨x 0, List.mem_finRange _, ?_⟩
    rwa [show Shape.ofLane (d := d) (x 0) = x from funext fun a => by obtain rfl : a = 0 := Subsingleton.elim _ _; rfl]
  · exact foldl_miss hp j _ f fun k _ hk => hx ⟨_, hk⟩

end Store

/-! ## The marks -/

variable {α : Type} (one zero : α) (ids : Ids.Idx → BitVec 32)

open Classical in
/-- The mask: `one` at each position that is some identifier, `zero` elsewhere. -/
noncomputable def mask : Mask.Idx → α := fun p => if ∃ j, (ids j).toNat = (p 0).val then one else zero

open Classical in
/-- The block of the positions from `lo` after the first `n` identifiers: `one` where one of them, below `hi`, falls, `zero` elsewhere. -/
noncomputable def marked (lo hi n : ℕ) : Block.Idx → α := fun q =>
  if ∃ j : Ids.Idx, (j 0).val < n ∧ (ids j).toNat < hi ∧ (ids j).toNat = lo + (q 0).val then one else zero

/-- Before the first identifier nothing is marked. -/
theorem marked_zero (lo hi : ℕ) (q : Block.Idx) : marked one zero ids lo hi 0 q = zero :=
  if_neg fun ⟨_, h, _⟩ => absurd h (Nat.not_lt_zero _)

/-- After all the identifiers the block holds the mask's own elements, at the positions below `hi`. -/
theorem marked_all (lo hi : ℕ) (q : Block.Idx) (p : Mask.Idx) (hp : (p 0).val = lo + (q 0).val) (hhi : (p 0).val < hi) :
    marked one zero ids lo hi 16384 q = mask one zero ids p := by
  classical
  unfold marked mask
  refine if_congr ⟨fun ⟨j, _, _, h⟩ => ⟨j, h.trans hp.symm⟩, fun ⟨j, h⟩ => ⟨j, (j 0).isLt, ?_, h.trans hp⟩⟩ rfl rfl
  rw [h]; exact hhi

variable {F : FTy → Type} [FloatOps F] (one zero : Elt F .f32)

/-- One register of identifiers: the next sixteen are marked by the store whose mask admits those from `lo` below `hi` and whose index is
    the distance from `lo`. -/
theorem marked_step (lo hi n : ℕ) (hn : n + 16 ≤ 16384) (v : IVec Lanes 32) (idx : IVec Lanes 32) (msk : IVec Lanes 1)
    (hv : ∀ (x : Lanes.Idx) (j : Ids.Idx), (j 0).val = n + (x 0).val → v x = ids j)
    (hm : ∀ x, msk x = 1 ↔ lo ≤ (v x).toNat ∧ (v x).toNat < hi)
    (hi' : ∀ x, msk x = 1 → (idx x).toNat = (v x).toNat - lo)
    (h : ∀ a x, ((![idx] : Fin 1 → IVec Lanes 32) a x).toNat < Block.size a) :
    storeIdx (F := F) (s := Block) (e := .f32) (marked one zero ids lo hi n) ![idx] (fun _ => one) msk false h
      = marked one zero ids lo hi (n + 16) := by
  classical
  funext q
  rw [storeIdx_const]
  by_cases hx : ∃ x, Hits (s := Block) (![idx] : Fin 1 → IVec Lanes 32) msk q x
  · rw [if_pos hx]
    obtain ⟨x, hmx, hq⟩ := hx
    obtain ⟨h1, h2⟩ := (hm x).mp hmx
    have h3 : (q 0).val = (v x).toNat - lo := (hq 0).trans (hi' x hmx)
    have hlt : n + (x 0).val < 16384 := by have : (x 0).val < 16 := (x 0).isLt; omega
    have e := hv x (fun a => ⟨n + (x 0).val, by obtain rfl : a = 0 := Subsingleton.elim _ _; exact hlt⟩) rfl
    refine (if_pos ⟨fun a => ⟨n + (x 0).val, by obtain rfl : a = 0 := Subsingleton.elim _ _; exact hlt⟩, ?_, ?_, ?_⟩).symm
    · show n + (x 0).val < n + 16
      have : (x 0).val < 16 := (x 0).isLt
      omega
    · rw [← e]; exact h2
    · rw [← e]; omega
  · rw [if_neg hx]
    unfold marked
    refine if_congr ⟨fun ⟨j, h1, h2⟩ => ⟨j, by omega, h2⟩, fun ⟨j, h1, h2, h3⟩ => ⟨j, ?_, h2, h3⟩⟩ rfl rfl
    by_contra hlt
    refine hx ⟨fun a => ⟨(j 0).val - n, by obtain rfl : a = 0 := Subsingleton.elim _ _; show (j 0).val - n < 16; omega⟩, ?_⟩
    have e := hv (fun a => ⟨(j 0).val - n, by obtain rfl : a = 0 := Subsingleton.elim _ _; show (j 0).val - n < 16; omega⟩) j
      (by show (j 0).val = n + ((j 0).val - n); omega)
    have hmx := (hm _).mpr ⟨by rw [e]; omega, by rw [e]; exact h2⟩
    refine ⟨hmx, fun a => ?_⟩
    obtain rfl : a = 0 := Subsingleton.elim _ _
    show (q 0).val = (idx _).toNat
    rw [hi' _ hmx, e]; omega

/-! ## The words of one register -/

section Words

variable (lo hi : BitVec 32) (v : IVec Lanes 32)

/-- The lanes' mask: an identifier from `lo` below `hi`, both compared as signed words. -/
abbrev laneMask : IVec Lanes 1 := andi (cmpi .sge v (broadcast Lanes lo)) (cmpi .slt v (broadcast Lanes hi))

/-- The lanes' index: the distance from `lo` where the mask is set, 0 elsewhere. -/
abbrev laneIdx : IVec Lanes 32 := select (laneMask lo hi v) (subi v (broadcast Lanes lo)) (broadcast Lanes 0#32)

/-- The mask is set exactly at the identifiers in the range, read as naturals: a negative word reads above every bound. -/
theorem laneMask_iff (hlo : lo.toNat < 2147483648) (hhi : hi.toNat < 2147483648) (x : Lanes.Idx) :
    laneMask lo hi v x = 1 ↔ lo.toNat ≤ (v x).toNat ∧ (v x).toNat < hi.toNat := by
  have hand : ∀ a b : Bool, BitVec.ofBool a &&& BitVec.ofBool b = 1 ↔ a = true ∧ b = true := by decide
  show IntOp.andi (IntOp.cmpi .sge (v x) lo) (IntOp.cmpi .slt (v x) hi) = 1 ↔ _
  unfold IntOp.andi IntOp.cmpi
  rw [hand]
  simp only [BitVec.sle_eq_decide, BitVec.slt_eq_decide, decide_eq_true_eq, BitVec.toInt_eq_toNat_cond]
  have := (v x).isLt
  split_ifs <;> omega

/-- Where the mask is set the index is the identifier's distance from `lo`. -/
theorem laneIdx_toNat (hlo : lo.toNat < 2147483648) (hhi : hi.toNat < 2147483648) (x : Lanes.Idx) (hx : laneMask lo hi v x = 1) :
    (laneIdx lo hi v x).toNat = (v x).toNat - lo.toNat := by
  show (Scalar.select (laneMask lo hi v x) (v x - lo) 0#32).toNat = _
  unfold Scalar.select
  rw [if_pos hx]
  have h1 := ((laneMask_iff lo hi v hlo hhi x).mp hx).1
  rw [BitVec.toNat_sub]
  have := (v x).isLt
  have := lo.isLt
  omega

/-- The index lies in the block, whatever the identifiers are. -/
theorem laneIdx_lt (hlo : lo.toNat < 2147483648) (hhi : hi.toNat < 2147483648) (hd : hi.toNat ≤ lo.toNat + 31360) (x : Lanes.Idx) :
    (laneIdx lo hi v x).toNat < 31360 := by
  by_cases hx : laneMask lo hi v x = 1
  · rw [laneIdx_toNat lo hi v hlo hhi x hx]
    have h1 := (laneMask_iff lo hi v hlo hhi x).mp hx
    omega
  · show (Scalar.select (laneMask lo hi v x) (v x - lo) 0#32).toNat < _
    unfold Scalar.select
    rw [if_neg hx]
    decide

end Words

end Cert.Proof.Marks

end
-- ==== Proof.IBase.lean ====
/-
  The mask kernel's program as the launch theorem sees it, its launch memory, which part of the mask each task writes, and what the one
  call hands to each SparseCore and each task. Read at any float instance: the kernel only moves and compares integer words, and its two float
  words are the constants 0.0 and 1.0.
-/
module

public import proofs.«01_k».proof.Defs
public import proofs.«01_k».proof.Proof.Marks
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type}

/-! ## The program as the launch theorem sees it -/

/-- The labels, the configuration, the definitions and the variants that the launch theorem is applied to. -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The semaphores of the launch handshake are distinct and lie outside every scope, and no sequencer shares a buffer with its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes beside the local transfers' counters -/

/-- The handshakes' rounds, and beside them the counters of local transfers. -/
abbrev UH : Type := URounds (GSem nD τ sig) ℕ
abbrev UU : Type := UH × Counters

local notation "𝕄" => MT nD τ sig (HIx 1) (Elt F) ℕ UU ℕ

/-- Where the handshakes' rounds lie in the whole. -/
abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The identifiers and the mask, as locations of device `d`. -/
abbrev iLoc (d : Dev nD) : Loc nD τ sig := (SparseCore.T d).loc main_arg0
abbrev oLoc (d : Dev nD) : Loc nD τ sig := (SparseCore.T d).loc main_v0

/-- The memrefs a task's body is called with: the identifiers, the mask, the task's copy of the identifiers, its block of the mask. -/
abbrev iV : Memref sig .scVector .hbm S16384 .i32 := Memref.whole main_arg0_scv
abbrev oV : Memref sig .scVector .hbm S1000000 .f32 := Memref.whole main_v0_scv
abbrev sI : Memref sig .scVector .vmem S16384 .i32 := Memref.whole cc0_scratch0
abbrev sB : Memref sig .scVector .vmem S31360 .f32 := Memref.whole cc0_scratch1

/-! ## Which part of the mask each task writes -/

/-- Task `(c, s)`'s first position; -/
abbrev lo (c s : ℕ) : ℕ := 62496 * s + 31248 * c
/-- and the first position after its part: each part has 31248 positions, but the last one runs to the mask's end. -/
abbrev hi (c s : ℕ) : ℕ := if 2 * s + c = 31 then 1000000 else lo c s + 31248

/-- The positions of task `(c, s)`: by the number of 31248-position parts before them, the last part taking the remainder. -/
def tile (c s : ℕ) : Finset S1000000.Idx := Finset.univ.filter fun p => min ((p 0).val / 31248) 31 = 2 * s + c
/-- The positions of SparseCore `c`'s sixteen tasks. -/
def half (c : ℕ) : Finset S1000000.Idx := Finset.univ.filter fun p => min ((p 0).val / 31248) 31 % 2 = c

/-- A position is in a task's part when the number of parts before it, at most 31, is the task's number; -/
theorem mem_tile {c s : ℕ} {p : S1000000.Idx} : p ∈ tile c s ↔ min ((p 0).val / 31248) 31 = 2 * s + c := by simp [tile]
/-- and in a SparseCore's half when that number has the SparseCore's parity. -/
theorem mem_half {c : ℕ} {p : S1000000.Idx} : p ∈ half c ↔ min ((p 0).val / 31248) 31 % 2 = c := by simp [half]

/-- Two tasks of one SparseCore have no position in common. -/
theorem tiles_disjoint (c : ℕ) : ∀ s ∈ (Finset.univ : Finset (Fin 16)), ∀ s' ∈ (Finset.univ : Finset (Fin 16)), s ≠ s' →
    Disjoint (tile c s.val) (tile c s'.val) := by
  intro s _ s' _ hs
  refine Finset.disjoint_left.mpr fun p hp hp' => hs (Fin.ext ?_)
  rw [mem_tile] at hp hp'
  omega

/-- The sixteen tasks of a SparseCore have all of its half. -/
theorem tiles_cover (c : Fin 2) : (Finset.univ : Finset (Fin 16)).biUnion (fun s => tile c.val s.val) = half c.val := by
  ext p
  rw [Finset.mem_biUnion, mem_half]
  constructor
  · rintro ⟨s, -, hp⟩
    rw [mem_tile] at hp
    have := c.isLt
    omega
  · intro hp
    refine ⟨⟨min ((p 0).val / 31248) 31 / 2, by omega⟩, Finset.mem_univ _, mem_tile.mpr ?_⟩
    show min ((p 0).val / 31248) 31 = 2 * (min ((p 0).val / 31248) 31 / 2) + c.val
    omega

/-- The two SparseCores have no position in common. -/
theorem halves_disjoint : ∀ c ∈ (Finset.univ : Finset (Fin 2)), ∀ c' ∈ (Finset.univ : Finset (Fin 2)), c ≠ c' →
    Disjoint (half c.val) (half c'.val) := by
  intro c _ c' _ hc
  refine Finset.disjoint_left.mpr fun p hp hp' => hc (Fin.ext ?_)
  rw [mem_half] at hp hp'
  omega

/-- The two SparseCores have all of the mask. -/
theorem halves_cover : (Finset.univ : Finset (Fin 2)).biUnion (fun c => half c.val) = Finset.univ := by
  ext p
  rw [Finset.mem_biUnion]
  exact iff_of_true ⟨⟨min ((p 0).val / 31248) 31 % 2, by omega⟩, Finset.mem_univ _, mem_half.mpr rfl⟩ (Finset.mem_univ _)

/-- Every task with a whole part writes a slice of 31248 positions from its first, which is its set of positions; -/
theorem slice_eq_tile {c s : ℕ} (h : 2 * s + c < 31) {off : Fin 1 → ℕ} (ho : off 0 = lo c s)
    (inb : ∀ a, off a + S31248.size a ≤ S1000000.size a) : (Rect.unit (s := S1000000) off S31248.size inb).set = tile c s := by
  ext p
  rw [Rect.mem_set_unit, mem_tile]
  constructor
  · intro hp
    have := hp 0
    rw [ho] at this
    change lo c s ≤ (p 0).val ∧ (p 0).val < lo c s + 31248 at this
    unfold lo at this
    omega
  · intro hp a
    obtain rfl : a = 0 := Subsingleton.elim _ _
    rw [ho]
    change lo c s ≤ (p 0).val ∧ (p 0).val < lo c s + 31248
    unfold lo
    omega

/-- the last task a slice of 31312 positions up to the mask's end. -/
theorem last_slice_eq_tile {c s : ℕ} (h : 2 * s + c = 31) :
    (Rect.unit (s := S1000000) ![968688] S31312.size inb_S1000000_S31312_968688).set = tile c s := by
  ext p
  rw [Rect.mem_set_unit, mem_tile]
  have hp1 : (p 0).val < 1000000 := (p 0).isLt
  constructor
  · intro hp
    have := hp 0
    change 968688 ≤ (p 0).val ∧ (p 0).val < 968688 + 31312 at this
    omega
  · intro hp a
    obtain rfl : a = 0 := Subsingleton.elim _ _
    change 968688 ≤ (p 0).val ∧ (p 0).val < 968688 + 31312
    omega

/-! ## The value -/

variable [FloatOps F]

/-- The float words 0.0 and 1.0. -/
abbrev zero : Elt F .f32 := Scalar.ofBits (F := F) .f32 0x00000000#32
abbrev one : Elt F .f32 := Scalar.ofBits (F := F) .f32 0x3F800000#32

/-- The mask of device `d`'s identifiers: 1.0 at every position that is an identifier, 0.0 elsewhere. -/
def out (d : Dev nD) : Buf (Elt F) (oLoc d) := Marks.mask (one (F := F)) zero (m (iLoc d))

/-! ## What the call hands over and takes back -/

/-- The read share of the identifiers of SparseCore `c`, and of its task `s`. -/
def qC (c : ℕ) : PosShare TreeShare := Transfers.shareTokN fullShare c
def qT (c s : ℕ) : PosShare TreeShare := Transfers.shareTokN (qC c) s

/-- Each SparseCore takes a read share of the identifiers and its half of the mask, each task a share of that share and its part; they
    come back with the mask's own elements in them. -/
def P : (K (F := F)).Pay (nD := nD) (Val := Elt F) (Name := ℕ) (U := UU) where
  st := fun _ d c => iprop((iLoc d ↦{qC c.val} m (iLoc d)) ∗ oLoc d ↦[half c.val]{fullShare} m (oLoc d))
  dn := fun _ d c => iprop((iLoc d ↦{qC c.val} m (iLoc d)) ∗ oLoc d ↦[half c.val]{fullShare} out m d)
  go := fun _ d c i => iprop((iLoc d ↦{qT c.val i.val} m (iLoc d)) ∗ oLoc d ↦[tile c.val i.val]{fullShare} m (oLoc d))
  td := fun _ d c i => iprop((iLoc d ↦{qT c.val i.val} m (iLoc d)) ∗ oLoc d ↦[tile c.val i.val]{fullShare} out m d)
  x := fun _ _ => iprop(emp)

/-- All that is handed over can be kept in an invariant. -/
instance P_storable : (P (F := F) m).IsStorable where
  st _ d c := by unfold P; infer_instance
  dn _ d c := by unfold P; infer_instance
  go _ _ _ _ := by unfold P; infer_instance
  td _ _ _ _ := by unfold P; infer_instance

/-! ## A task's own semaphores and buffers -/

section Own

variable (d : Dev nD) (L : grid0.Coords)

/-- The SparseCore and the tile that the task runs on. -/
abbrev cV : Fin τ.nSC := (L 0).castLE hcore0
abbrev jV : Fin τ.nSub := (L 1).castLE hsub0
/-- The task's thread. -/
abbrev thr : Thread nD τ := V d (cV L) (jV L)

/-- The semaphores of the three transfers: the identifiers' fetch, the write-out of a whole part, the last task's write-out. -/
abbrev cellF : GSem nD τ sig := (thr d L, .dma cc0_scratch2.sem)
abbrev cellW : GSem nD τ sig := (thr d L, .dma cc0_scoped0.sem)
abbrev cellZ : GSem nD τ sig := (thr d L, .dma cc0_scoped1.sem)

omit [FloatOps F] in
/-- The three semaphores are among the task's own: those are the three, at zero, and the rest. -/
theorem ownSems0_V :
    (ownSems0 (thr d L) : sProp 𝕄)
      = iprop(semVal (cellF d L) 0 ∗ semVal (cellW d L) 0 ∗ semVal (cellZ d L) 0
          ∗ bigSep ((((ownCells (thr d L)).erase (cellF d L)).erase (cellW d L)).erase (cellZ d L)) fun g => semVal g 0) := by
  unfold SparseCore.Cfg.ownSems0
  rw [SparseCore.bigSep_erase' ((mem_ownCells (g := cellF d L)).mpr ⟨rfl, by
      show (SemLoc.dma cc0_scratch2.sem : SemLoc sig).isScoped .scVector = true; decide⟩),
    SparseCore.bigSep_erase' (Finset.mem_erase.mpr ⟨by simp [cellF, cellW]; decide, (mem_ownCells (g := cellW d L)).mpr ⟨rfl, by
      show (SemLoc.dma cc0_scoped0.sem : SemLoc sig).isScoped .scVector = true; decide⟩⟩),
    SparseCore.bigSep_erase' (Finset.mem_erase.mpr ⟨by simp [cellW, cellZ]; decide, Finset.mem_erase.mpr ⟨by simp [cellF, cellZ]; decide,
      (mem_ownCells (g := cellZ d L)).mpr ⟨rfl, by show (SemLoc.dma cc0_scoped1.sem : SemLoc sig).isScoped .scVector = true; decide⟩⟩⟩)]

omit [FloatOps F] in
/-- The two scratch buffers are among the task's own: those are the two, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Own

end Cert.Proof.KernelIdeal

end
-- ==== Proof.ITile.lean ====
/-
  One task of the mask kernel: its identifiers fetched while its block is zeroed, every identifier of its part marked, the part written out.
-/
module

public import proofs.«01_k».proof.Proof.IBase
public import Idealize.ShloMosaic.Lib.SparseCore.Ops

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type}

local notation "𝕄" => MT nD τ sig (HIx 1) (Elt F) ℕ UU ℕ

/-! ## The task's words -/

section Words

variable (L : grid0.Coords)

/-- The words of the part's two ends as the task computes them, and the condition that it is the last task. -/
abbrev loW : BitVec 32 := Scalar.muli (Scalar.addi (Scalar.muli (BitVec.ofNat 32 (L 1).val) 2#32) (BitVec.ofNat 32 (L 0).val)) 31248#32
abbrev hiW : BitVec 32 :=
  Scalar.select (Scalar.cmpi .eq (Scalar.addi (Scalar.muli (BitVec.ofNat 32 (L 1).val) 2#32) (BitVec.ofNat 32 (L 0).val)) 31#32) 1000000#32
    (Scalar.addi (loW L) 31248#32)
abbrev lastW : BitVec 1 :=
  Scalar.cmpi .ne (Scalar.extui (Scalar.cmpi .eq (Scalar.addi (Scalar.muli (BitVec.ofNat 32 (L 1).val) 2#32) (BitVec.ofNat 32 (L 0).val)) 31#32)) 0#32

/-- The two words are the part's two ends, and the two branches are taken by the tasks before the last and by the last. -/
theorem loW_toNat : ∀ L : grid0.Coords, (loW L).toNat = lo (L 0).val (L 1).val := by decide +kernel
theorem hiW_toNat : ∀ L : grid0.Coords, (hiW L).toNat = hi (L 0).val (L 1).val := by decide +kernel
theorem cond1_iff : ∀ L : grid0.Coords, k0_cond1 L = 1#1 ↔ 2 * (L 1).val + (L 0).val < 31 := by decide +kernel
theorem lastW_iff : ∀ L : grid0.Coords, lastW L = 1#1 ↔ 2 * (L 1).val + (L 0).val = 31 := by decide +kernel
/-- There are two SparseCores and sixteen tasks on each. -/
theorem core_lt : ∀ L : grid0.Coords, (L 0).val < 2 ∧ (L 1).val < 16 := fun L => ⟨(L 0).isLt, (L 1).isLt⟩

/-- Both ends are nonnegative as signed words, and a part is no longer than the block. -/
theorem loW_lt : (loW L).toNat < 2147483648 := by
  rw [loW_toNat]; unfold lo; have := core_lt L; omega
theorem hiW_lt : (hiW L).toNat < 2147483648 := by
  rw [hiW_toNat]; unfold hi lo; have := core_lt L; split_ifs <;> omega
theorem hiW_le : (hiW L).toNat ≤ (loW L).toNat + 31360 := by
  rw [hiW_toNat, loW_toNat]; unfold hi lo; have := core_lt L; split_ifs <;> omega

/-- Every printed side condition of an indexed store: the indices lie in the block. -/
theorem chk (v : IVec S16 32) : k0_chk1 (Marks.laneIdx (loW L) (hiW L) v) := by
  intro a x
  obtain rfl : a = 0 := Subsingleton.elim _ _
  exact Marks.laneIdx_lt (loW L) (hiW L) v (loW_lt L) (hiW_lt L) (hiW_le L) x

end Words

/-- How often the zeroing and the marking loop run. -/
theorem trips1 : k0_t1_loop.trips = 490 := by decide +kernel
theorem trips2 : k0_t2_loop.trips = 256 := by decide +kernel
/-- The marking loop goes over all the identifiers. -/
theorem all_trips : 64 * Scf.trips k0_t2_loop.lb k0_t2_loop.ub k0_t2_loop.st = 16384 := by decide +kernel

/-! ## The task -/

variable (m : (ℓ : Loc nD τ sig) → Buf (Elt F) ℓ) [FloatOps F] (d : Dev nD) (L : grid0.Coords)

/-- The task's block after its first `n` identifiers. -/
abbrev blk (n : ℕ) : Buf (Elt F) ((thr d L).loc cc0_scratch1) :=
  Marks.marked (one (F := F)) zero (m (iLoc d)) (lo (L 0).val (L 1).val) (hi (L 0).val (L 1).val) n

/-- The zeroing loop's invariant: the block's first `64 * k` elements are zero. -/
def invZ (k : ℕ) (_ : PUnit) : sProp 𝕄 :=
  iprop(∃ f : Buf (Elt F) ((thr d L).loc cc0_scratch1), ⌜∀ q : S31360.Idx, (q 0).val < 64 * k → f q = zero (F := F)⌝
    ∗ (sB).view.loc (thr d L) ↦{fullShare} f)

/-- The marking loop's invariant: the fetched identifiers, and the block with the first `64 * k` of them marked. -/
def invM (k : ℕ) (_ : PUnit) : sProp 𝕄 :=
  iprop(((sI).view.loc (thr d L) ↦{fullShare} (m (iLoc d) : Buf (Elt F) ((thr d L).loc cc0_scratch0)))
    ∗ (sB).view.loc (thr d L) ↦{fullShare} blk m d L (64 * k))

omit [FloatOps F] in
/-- The buffers as the task's memrefs address them. -/
theorem pts_i (q : PosShare TreeShare) (f : Buf (Elt F) (iLoc d)) : ((iV).view.loc (thr d L) ↦{q} f : sProp 𝕄) = iLoc d ↦{q} f := rfl
omit [FloatOps F] in
theorem pts_sI (f : Buf (Elt F) ((thr d L).loc cc0_scratch0)) :
    ((sI).view.loc (thr d L) ↦{fullShare} f : sProp 𝕄) = (thr d L).loc cc0_scratch0 ↦{fullShare} f := rfl
omit [FloatOps F] in
theorem pts_sB (f : Buf (Elt F) ((thr d L).loc cc0_scratch1)) :
    ((sB).view.loc (thr d L) ↦{fullShare} f : sProp 𝕄) = (thr d L).loc cc0_scratch1 ↦{fullShare} f := rfl

/-- What the task holds of the launch's arrays, its part of the mask at `f`. -/
abbrev held (f : Buf (Elt F) (oLoc d)) : sProp 𝕄 :=
  iprop((iLoc d ↦{qT (L 0).val (L 1).val} m (iLoc d)) ∗ oLoc d ↦[tile (L 0).val (L 1).val]{fullShare} f)

omit [FloatOps F] in
/-- The block held through its whole-rectangle view, as an indexed store takes it. -/
theorem pts_sB_whole (f : Buf (Elt F) ((thr d L).loc cc0_scratch1)) :
    (((sB).access (.whole S31360)).loc (thr d L) ↦[((sB).access (.whole S31360)).set]{fullShare} f : sProp 𝕄)
      = (sB).view.loc (thr d L) ↦{fullShare} f := by
  rw [show ((sB).access (.whole S31360)).set = Finset.univ from Memref.set_access_whole (cc0_scratch1 : Ref sig .scVector)]

omit [FloatOps F] in
/-- A register loaded from the fetched identifiers holds sixteen of them in order. -/
theorem load_lanes (off : Fin 1 → ℕ) (inb : ∀ a, off a + S16.size a ≤ S16384.size a) (f : Buf (Elt F) ((thr d L).loc cc0_scratch0))
    (x : S16.Idx) (j : S16384.Idx) (hj : (j 0).val = off 0 + (x 0).val) :
    (sI).view.readAt (Elt F) (Rect.unit (s := S16384) off S16.size inb).toLoadRect f x = f j := by
  simp only [View.readAt_apply, Memref.view_whole, View.read_whole]
  refine congrArg f (funext fun a => Fin.ext ?_)
  rw [LoadRect.idx_apply]
  obtain rfl : a = 0 := Subsingleton.elim _ _
  show off 0 + 1 * (x 0).val = (j 0).val
  omega

/-- One register of identifiers, from number `n`: the load, the check of its indices and the masked store mark them. -/
theorem wp_mark {α : Type} (n : ℕ) {off : Fin 1 → ℕ} (hoff : off 0 = n) (hn : n + 16 ≤ 16384)
    {inb : ∀ a, off a + S16.size a ≤ S16384.size a} {hl : (sI).view.LoadsAt (Rect.unit (s := S16384) off S16.size inb).toLoadRect}
    {C : Vec F S16 .i32 → Prop} {dec : ∀ x, Decidable (C x)} (hC : ∀ x, C x)
    {idx : Vec F S16 .i32 → IVec S16 32} (hidx : idx = Marks.laneIdx (loW L) (hiW L))
    {msk : Vec F S16 .i32 → IVec S16 1} (hmsk : msk = Marks.laneMask (loW L) (hiW L))
    {hin : ∀ x, PLift (C x) → ∀ a y, ((![idx x] : Fin 1 → IVec S16 32) a y).toNat < S31360.size a}
    {hs : ((sB).access (.whole S31360)).Stores Finset.univ}
    {k : Vec F S16 .i32 → Prog (TpuEff nD τ sig (Elt F) Λ₀ (thr d L).2) α} {Q : α → sProp 𝕄} :
    iprop(((sI).view.loc (thr d L) ↦{fullShare} (m (iLoc d) : Buf (Elt F) ((thr d L).loc cc0_scratch0)))
        ∗ (sB).view.loc (thr d L) ↦{fullShare} blk m d L n)
      ⊢ iprop((∀ x, (((sI).view.loc (thr d L) ↦{fullShare} (m (iLoc d) : Buf (Elt F) ((thr d L).loc cc0_scratch0)))
            ∗ (sB).view.loc (thr d L) ↦{fullShare} blk m d L (n + 16))
          -∗ wp frame (wpE (defs₀ (F := F)) 𝒱₀ (thr d L) none) Set.univ (k x) Q)
        -∗ wp frame (wpE (defs₀ (F := F)) 𝒱₀ (thr d L) none) Set.univ
          (.op (.load sI (Rect.unit (s := S16384) off S16.size inb).toLoadRect hl) fun x =>
            .op (.assume (C x) (dec x)) fun h =>
              SparseCore.vectorStoreIdx sB ![idx x] (k0_pay2 (F := F)) (msk x) false (hin x h) hs >>= fun _ => k x) Q) := by
  subst hidx hmsk hoff
  iintro ⟨Hs, Hb⟩ Hk
  iapply (wp_load 𝒱₀ (thr d L) none Set.univ (m := sI) (S := Finset.univ) (Finset.subset_univ _)) $$ Hs
  iintro Hs
  rw [wp_assume_of _ _ _ _ (hC _)]
  ihave Hb' := (Entails.of_eq (pts_sB_whole (F := F) d L _).symm) $$ Hb
  iapply (SparseCore.wp_vectorStoreIdx 𝒱₀ (thr d L) none Set.univ (base := sB)) $$ Hb'
  iintro Hb
  ihave Hb' := (Entails.of_eq (pts_sB_whole (F := F) d L _)) $$ Hb
  iapply Hk
  isplitl [Hs]; · iexact Hs
  have e : storeIdx (blk (F := F) m d L (off 0))
      ![Marks.laneIdx (loW L) (hiW L) ((sI).view.readAt (Elt F) (Rect.unit (s := S16384) off S16.size inb).toLoadRect (m (iLoc d)))]
      (k0_pay2 (F := F)) (Marks.laneMask (loW L) (hiW L) ((sI).view.readAt (Elt F) (Rect.unit (s := S16384) off S16.size inb).toLoadRect (m (iLoc d))))
      false (hin _ ⟨hC _⟩) = blk m d L (off 0 + 16) :=
    Marks.marked_step (F := F) (m (iLoc d)) (one (F := F)) zero (lo (L 0).val (L 1).val) (hi (L 0).val (L 1).val) (off 0) hn _ _ _
      (fun x j hj => load_lanes d L off inb (m (iLoc d)) x j hj)
      (fun x => by rw [← loW_toNat, ← hiW_toNat]; exact Marks.laneMask_iff _ _ _ (loW_lt L) (hiW_lt L) x)
      (fun x hx => by rw [← loW_toNat]; exact Marks.laneIdx_toNat _ _ _ (loW_lt L) (hiW_lt L) x hx) _
  have e2 : ((sB).access (.whole S31360)).write (Elt F) (blk m d L (off 0))
      (storeIdx (((sB).access (.whole S31360)).read (Elt F) (blk m d L (off 0)))
        ![Marks.laneIdx (loW L) (hiW L) ((sI).view.readAt (Elt F) (Rect.unit (s := S16384) off S16.size inb).toLoadRect (m (iLoc d)))]
        (k0_pay2 (F := F)) (Marks.laneMask (loW L) (hiW L) ((sI).view.readAt (Elt F) (Rect.unit (s := S16384) off S16.size inb).toLoadRect (m (iLoc d))))
        false (hin _ ⟨hC _⟩)) Finset.univ = blk m d L (off 0 + 16) :=
    (Memref.write_access_whole_univ (Elt F) (cc0_scratch1 : Ref sig .scVector) _ _).trans
      ((congrArg (fun g => storeIdx g _ _ _ _ _) (Memref.read_access_whole (Elt F) (cc0_scratch1 : Ref sig .scVector) _)).trans e)
  ihave Hb := (Entails.of_eq (congrArg (fun g => ((sB).view.loc (thr d L) ↦{fullShare} g : sProp 𝕄)) e2)) $$ Hb'
  iexact Hb

/-- The elements of the zeroing trip's `r`-th sixteen. -/
theorem mem_sixteen (k : Fin k0_t1_loop.trips) (r : Fin 4) (q : S31360.Idx) :
    q ∈ (Rect.unit (s := S31360) (k0_off1 k (BitVec.ofNat 32 (16 * r.val))) S16.size (k0_off1_inb k r)).set
      ↔ 64 * k.val + 16 * r.val ≤ (q 0).val ∧ (q 0).val < 64 * k.val + 16 * r.val + 16 := by
  have e : k0_off1 k (BitVec.ofNat 32 (16 * r.val)) 0 = 64 * k.val + 16 * r.val := congrFun (k0_off1_eq k r) 0
  rw [Rect.mem_set_unit]
  constructor
  · intro h
    have := h 0
    rw [e] at this
    exact this
  · intro h a
    obtain rfl : a = 0 := Subsingleton.elim _ _
    rw [e]
    exact h

/-- Four sixteens of zeros from element `64 * k` on leave zero every element before `64 * (k + 1)`. -/
theorem zeroed (k : Fin k0_t1_loop.trips) (f : Buf (Elt F) ((thr d L).loc cc0_scratch1))
    (hf : ∀ q : S31360.Idx, (q 0).val < 64 * k.val → f q = zero (F := F)) (q : S31360.Idx) (hq : (q 0).val < 64 * (k.val + 1)) :
    ((sB).view.writes (Elt F) f
      [⟨Rect.unit (s := S31360) (k0_off1 k 48#32) S16.size (k0_off1_inb k 3), k0_pay1 (F := F)⟩,
        ⟨Rect.unit (s := S31360) (k0_off1 k 32#32) S16.size (k0_off1_inb k 2), k0_pay1⟩,
        ⟨Rect.unit (s := S31360) (k0_off1 k 16#32) S16.size (k0_off1_inb k 1), k0_pay1⟩,
        ⟨Rect.unit (s := S31360) (k0_off1 k 0#32) S16.size (k0_off1_inb k 0), k0_pay1⟩] : Buf (Elt F) ((thr d L).loc cc0_scratch1)) q
      = zero (F := F) := by
  have key : ∀ g : Buf (Elt F) ((thr d L).loc cc0_scratch1), g q = (sB).view.read (Elt F) g q := fun g =>
    (congrFun (View.read_whole (Val := Elt F) cc0_scratch1 g) q).symm
  refine (key _).trans ?_
  by_cases h : (q 0).val < 64 * k.val
  · refine (View.read_writes_apply_of_forall_not_mem _ _ q _ ?_).trans ((key f).symm.trans (hf q h))
    intro p hp hm
    simp only [List.mem_cons, List.not_mem_nil, or_false] at hp
    rcases hp with rfl | rfl | rfl | rfl
    · have := (mem_sixteen k 3 q).mp hm; omega
    · have := (mem_sixteen k 2 q).mp hm; omega
    · have := (mem_sixteen k 1 q).mp hm; omega
    · have := (mem_sixteen k 0 q).mp hm; omega
  · refine View.read_writes_apply_of_pieces _ _ (fun _ => zero (F := F)) _ ?_ q ?_
    · intro p hp x
      simp only [List.mem_cons, List.not_mem_nil, or_false] at hp
      rcases hp with rfl | rfl | rfl | rfl <;> rfl
    · obtain h3 | h2 | h1 | h0 : 64 * k.val + 48 ≤ (q 0).val ∨ (64 * k.val + 32 ≤ (q 0).val ∧ (q 0).val < 64 * k.val + 48)
          ∨ (64 * k.val + 16 ≤ (q 0).val ∧ (q 0).val < 64 * k.val + 32) ∨ (q 0).val < 64 * k.val + 16 := by omega
      · exact ⟨_, .head _, (mem_sixteen k 3 q).mpr ⟨h3, by show _ < 64 * k.val + 16 * 3 + 16; omega⟩⟩
      · exact ⟨_, .tail _ (.head _), (mem_sixteen k 2 q).mpr h2⟩
      · exact ⟨_, .tail _ (.tail _ (.head _)), (mem_sixteen k 1 q).mpr h1⟩
      · exact ⟨_, .tail _ (.tail _ (.tail _ (.head _))), (mem_sixteen k 0 q).mpr ⟨by show 64 * k.val + 16 * 0 ≤ _; omega, h0⟩⟩

/-- One trip of the zeroing loop: four stores of sixteen zeros. -/
theorem zero_trip (k : Fin k0_t1_loop.trips) (acc : PUnit) :
    invZ d L k.val acc ⊢ wp frame (wpE (defs₀ (F := F)) 𝒱₀ (thr d L) none) Set.univ
      (k0_t1_body L iV (Memref.isWhole_whole _) oV (Memref.isWhole_whole _) sI (Memref.isWhole_whole _) sB (Memref.isWhole_whole _)
        cc0_scratch2 cc0_scoped0 cc0_scoped1 k acc) (invZ d L (k.val + 1)) := by
  unfold invZ k0_t1_body
  iintro ⟨%f, %hf, Hb⟩
  sl_exec
  sl_step
  iexists _
  isplitr
  · ipureintro
    intro q hq
    exact zeroed d L k f hf q hq
  · iexact Hb

/-- One trip of the marking loop: four registers of identifiers. -/
theorem mark_trip (k : Fin k0_t2_loop.trips) (acc : PUnit) :
    invM m d L k.val acc ⊢ wp frame (wpE (defs₀ (F := F)) 𝒱₀ (thr d L) none) Set.univ
      (k0_t2_body L iV (Memref.isWhole_whole _) oV (Memref.isWhole_whole _) sI (Memref.isWhole_whole _) sB (Memref.isWhole_whole _)
        cc0_scratch2 cc0_scoped0 cc0_scoped1 (loW L) (hiW L) k acc) (invM m d L (k.val + 1)) := by
  unfold invM k0_t2_body
  rw [k0_part1_eq_skeleton]
  unfold k0_part1_skel
  simp only [Prog.lift, Prog.bind_op, Prog.bind_ret, Prog.pure_eq_ret, Prog.bind_assoc]
  iintro H
  iapply (wp_mark m d L (64 * k.val) (congrFun (k0_off2_eq k) 0) (by have := k.isLt; have := trips2; omega) (fun x => chk L x) rfl rfl) $$ H
  iintro %_ H
  iapply (wp_mark m d L (64 * k.val + 16) (congrFun (k0_off3_eq k) 0) (by have := k.isLt; have := trips2; omega) (fun x => chk L x) rfl rfl) $$ H
  iintro %_ H
  iapply (wp_mark m d L (64 * k.val + 32) (congrFun (k0_off4_eq k) 0) (by have := k.isLt; have := trips2; omega) (fun x => chk L x) rfl rfl) $$ H
  iintro %_ H
  iapply (wp_mark m d L (64 * k.val + 48) (congrFun (k0_off5_eq k) 0) (by have := k.isLt; have := trips2; omega) (fun x => chk L x) rfl rfl) $$ H
  iintro %_ H
  rw [wp_ret]
  imodintro
  iexact H

/-- The zeroed block is the block with no identifier marked. -/
theorem zero_blk (f : Buf (Elt F) ((thr d L).loc cc0_scratch1)) (hf : ∀ q : S31360.Idx, (q 0).val < 64 * k0_t1_loop.trips → f q = zero (F := F)) :
    f = blk m d L (64 * 0) := by
  funext q
  have hq : (q 0).val < 31360 := (q 0).isLt
  exact (hf q (by rw [trips1]; omega)).trans (Marks.marked_zero (one (F := F)) zero (m (iLoc d)) _ _ q).symm

omit [FloatOps F] in
/-- The fetch leaves the identifiers in the task's copy of them. -/
theorem fetched (fi : Buf (Elt F) ((thr d L).loc cc0_scratch0)) :
    ∀ w, w = (iV).view.read (Elt F) (m (iLoc d)) → View.write (Elt F) (sI).view fi w Finset.univ = m (iLoc d) := by
  rintro w rfl
  exact View.write_whole_univ (Val := Elt F) cc0_scratch0 fi _

/-! ## The write-out -/

/-- The slice of the mask that a task with a whole part writes, and the one that the last task writes. -/
abbrev oPart (inb : ∀ a, k0_off6 L a + S31248.size a ≤ S1000000.size a) : Memref sig .scVector .hbm S31248 .f32 :=
  (oV).slice (Rect.unit (s := S1000000) (k0_off6 L) S31248.size inb) (fun _ => rfl)
abbrev oLast : Memref sig .scVector .hbm S31312 .f32 :=
  (oV).slice (Rect.unit (s := S1000000) ![968688] S31312.size inb_S1000000_S31312_968688) (fun _ => rfl)

/-- A whole part is written from its first position on. -/
theorem off6 : k0_off6 L 0 = lo (L 0).val (L 1).val := congrFun (k0_off6_eq L) 0

omit [FloatOps F] in
/-- Holding the slice that a task before the last writes is holding its part; -/
theorem pts_part (h : 2 * (L 1).val + (L 0).val < 31) (inb : ∀ a, k0_off6 L a + S31248.size a ≤ S1000000.size a) (f : Buf (Elt F) (oLoc d)) :
    ((oPart L inb).view.loc (thr d L) ↦[(oPart L inb).view.set]{fullShare} f : sProp 𝕄)
      = oLoc d ↦[tile (L 0).val (L 1).val]{fullShare} f := by
  rw [show (oPart L inb).view.set = tile (L 0).val (L 1).val from
    (View.set_slice_whole main_v0_scv _).trans (slice_eq_tile h (off6 L) inb)]

omit [FloatOps F] in
/-- and so for the last task. -/
theorem pts_last (h : 2 * (L 1).val + (L 0).val = 31) (f : Buf (Elt F) (oLoc d)) :
    ((oLast).view.loc (thr d L) ↦[(oLast).view.set]{fullShare} f : sProp 𝕄) = oLoc d ↦[tile (L 0).val (L 1).val]{fullShare} f := by
  rw [show (oLast).view.set = tile (L 0).val (L 1).val from (View.set_slice_whole main_v0_scv _).trans (last_slice_eq_tile h)]

omit [FloatOps F] in
/-- A copy of a slice of the block to a slice of the mask leaves there what the block's elements agree with. -/
theorem copied {o b sz : Fin 1 → ℕ} (inbo : ∀ a, o a + sz a ≤ S1000000.size a) (inbb : ∀ a, b a + sz a ≤ S31360.size a)
    (f f' : Buf (Elt F) (oLoc d)) (g : Buf (Elt F) ((thr d L).loc cc0_scratch1))
    (h : ∀ x : (Rect.unit (s := S1000000) o sz inbo).shape.Idx,
      g ((Rect.unit (s := S31360) b sz inbb).emb x) = f' ((Rect.unit (s := S1000000) o sz inbo).emb x)) :
    ∀ p ∈ (Rect.unit (s := S1000000) o sz inbo).set,
      (((View.whole main_v0_scv).slice (Rect.unit (s := S1000000) o sz inbo)).writes (Elt F) f
        [⟨Rect.whole (Rect.unit (s := S1000000) o sz inbo).shape,
          ((View.whole cc0_scratch1).slice (Rect.unit (s := S31360) b sz inbb)).read (Elt F) g⟩]
        : Buf (Elt F) (oLoc d)) p = f' p := by
  intro p hp
  obtain ⟨x, rfl⟩ := (Rect.unit (s := S1000000) o sz inbo).toLoadRect.exists_idx_of_mem hp
  refine (congrFun (View.write_univ_eq_writes_whole ((View.whole main_v0_scv).slice (Rect.unit (s := S1000000) o sz inbo)) f [] _).symm _).trans ?_
  exact (View.write_emb_of_mem (v := (View.whole main_v0_scv).slice (Rect.unit (s := S1000000) o sz inbo)) f _ (Finset.mem_univ x)).trans (h x)

/-- The marked block's first elements, copied to the part from its first position on, are the mask's elements there. -/
theorem written {o b sz : Fin 1 → ℕ} (ho : o 0 = lo (L 0).val (L 1).val) (hb : b 0 = 0) (hs : lo (L 0).val (L 1).val + sz 0 ≤ hi (L 0).val (L 1).val)
    (inbo : ∀ a, o a + sz a ≤ S1000000.size a) (inbb : ∀ a, b a + sz a ≤ S31360.size a)
    (x : (Rect.unit (s := S1000000) o sz inbo).shape.Idx) :
    blk m d L 16384 ((Rect.unit (s := S31360) b sz inbb).emb x) = out m d ((Rect.unit (s := S1000000) o sz inbo).emb x) := by
  have hx : (x 0).val < sz 0 := (x 0).isLt
  unfold out blk
  apply Marks.marked_all
  · rw [Rect.emb_apply, Rect.emb_apply]
    show o 0 + 1 * (x 0).val = _ + (b 0 + 1 * (x 0).val)
    omega
  · rw [Rect.emb_apply]
    show o 0 + 1 * (x 0).val < _
    omega

/-- After the write-out of a whole part, the mask's elements stand in that part; -/
theorem part_out (h : 2 * (L 1).val + (L 0).val < 31) (inb : ∀ a, k0_off6 L a + S31248.size a ≤ S1000000.size a) (p : S1000000.Idx)
    (hp : p ∈ tile (L 0).val (L 1).val) :
    ∀ w : S31248.Idx → Elt F .f32,
      w = ((sB).slice (Rect.unit (s := S31360) ![0] S31248.size inb_S31360_S31248_0) (fun _ => rfl)).view.read (Elt F) (blk m d L 16384) →
      ((oPart L inb).view.writes (Elt F) (m (oLoc d)) [⟨Rect.whole S31248, w⟩] : Buf (Elt F) (oLoc d)) p = out m d p := by
  rintro w rfl
  refine copied d L (b := ![0]) inb inb_S31360_S31248_0 (m (oLoc d)) (out m d) (blk m d L 16384)
    (written m d L (off6 L) rfl ?_ inb inb_S31360_S31248_0) p ((slice_eq_tile h (off6 L) inb).symm ▸ hp)
  unfold hi; split_ifs
  · omega
  · exact le_refl _

/-- and after the last task's, in the last part. -/
theorem last_out (h : 2 * (L 1).val + (L 0).val = 31) (p : S1000000.Idx) (hp : p ∈ tile (L 0).val (L 1).val) :
    ∀ w : S31312.Idx → Elt F .f32,
      w = ((sB).slice (Rect.unit (s := S31360) ![0] S31312.size inb_S31360_S31312_0) (fun _ => rfl)).view.read (Elt F) (blk m d L 16384) →
      ((oLast).view.writes (Elt F) (m (oLoc d)) [⟨Rect.whole S31312, w⟩] : Buf (Elt F) (oLoc d)) p = out m d p := by
  rintro w rfl
  refine copied d L (o := ![968688]) (b := ![0]) inb_S1000000_S31312_968688 inb_S31360_S31312_0 (m (oLoc d)) (out m d) (blk m d L 16384)
    (written m d L ?_ rfl ?_ inb_S1000000_S31312_968688 inb_S31360_S31312_0) p ((last_slice_eq_tile h).symm ▸ hp)
  · show 968688 = lo _ _
    unfold lo; omega
  · show _ + 31312 ≤ _
    unfold hi lo; rw [if_pos h]; omega

/-- The waits added by the task's two transfers are schedule-free. -/
theorem only_local (W : Waits sig (HIx 1)) (s s' : SemLoc sig) :
    ∀ p ∈ insert (s, (none : HIx 1)) (insert (s', (none : HIx 1)) W), p ∈ W ∨ p.2 = none := by
  intro p hp
  rcases Finset.mem_insert.mp hp with rfl | hp
  · exact .inr rfl
  rcases Finset.mem_insert.mp hp with rfl | hp
  · exact .inr rfl
  · exact .inl hp

/-- One task: it hands back its read share of the identifiers, and its part of the mask at the mask's own elements. -/
theorem tile_body (hF : (K (F := F)).Facts) (O : CellTallies nD τ sig (HIx 1)) (W : Waits sig (HIx 1)) (hO : ∀ g, O g none = 0) :
    iprop(levAts (K (F := F)).L (K (F := F)).lev ∗ emp
        ∗ held m d L (m (oLoc d))
        ∗ scopedBufs (thr d L) ∗ scopedSems0 (thr d L) ∗ owes (thr d L) O W)
      ⊢ wp frame (wpE (defs₀ (F := F)) 𝒱₀ (thr d L) none) Set.univ
          (cc0__mask_kernel L iV (Memref.isWhole_whole _) oV (Memref.isWhole_whole _) sI (Memref.isWhole_whole _) sB (Memref.isWhole_whole _)
            cc0_scratch2 cc0_scoped0 cc0_scoped1)
          fun _ => iprop(held m d L (out m d)
            ∗ scopedBufs (thr d L) ∗ scopedSems0 (thr d L) ∗ ∃ W', ⌜∀ p ∈ W', p ∈ W ∨ p.2 = none⌝ ∗ owes (thr d L) O W') := by
  simp only [cc0__mask_kernel_eq_skeleton]; unfold cc0__mask_kernel_skel
  rw [(K (F := F)).scopedBufs_V hF d (cV L) (jV L), SparseCore.Cfg.scopedSems0_V (Val := Elt F) d (cV L) (jV L), ownSems0_V, ownBufs_V]
  iintro ⟨#Hlv, -, ⟨Hi, Ho⟩, ⟨⟨%fi, Hs⟩, ⟨%fb, Hb⟩, Hbufs⟩, ⟨HsF, HsW, HsZ, Hsems⟩, HO⟩
  ihave Hmw := ((K (F := F)).mayWaits_none (thr := thr d L) hO) $$ Hlv
  ihave Hi' := (Entails.of_eq (pts_i (F := F) d L _ _).symm) $$ Hi
  ihave Hs' := (Entails.of_eq (pts_sI (F := F) d L _).symm) $$ Hs
  ihave Hb' := (Entails.of_eq (pts_sB (F := F) d L _).symm) $$ Hb
  sl_exec
  sl_for (invZ d L) $$ [Hb']
  case region =>
    exact fun k acc => zero_trip d L k acc
  · unfold invZ
    iexists fb
    isplitr
    · ipureintro
      exact fun q hq => absurd hq (by omega)
    · iexact Hb'
  iintro %_ HI
  unfold invZ
  icases HI with ⟨%f, %hf, Hb⟩
  sl_exec
  ihave Hsi := (Entails.of_eq (congrArg (fun g => ((sI).view.loc (thr d L) ↦{fullShare} g : sProp 𝕄)) (fetched (F := F) m d L fi (tile_body.sl.dma0 m d) rfl))) $$ Hs'
  ihave Hbz := (Entails.of_eq (congrArg (fun g => ((sB).view.loc (thr d L) ↦{fullShare} g : sProp 𝕄)) (zero_blk m d L f hf))) $$ Hb
  sl_for (invM m d L) $$ [Hsi Hbz]
  case region =>
    exact fun k acc => mark_trip m d L k acc
  · unfold invM
    isplitl [Hsi]; · iexact Hsi
    · iexact Hbz
  iintro %_ HI
  unfold invM
  rw [all_trips]
  icases HI with ⟨Hsi, Hb⟩
  by_cases hc : 2 * (L 1).val + (L 0).val < 31
  · have h1 := (cond1_iff L).mpr hc
    have h2 : ¬ lastW L = 1#1 := fun h => absurd ((lastW_iff L).mp h) (by omega)
    ihave Ho' := (Entails.of_eq (pts_part (F := F) d L hc (k0_off6_inb L h1) _).symm) $$ Ho
    sl_exec
    sl_step
    ihave Ho := (Entails.of_eq ((pts_part (F := F) d L hc (k0_off6_inb L h1) _).trans
      (pointsTo_congr fun p hp => part_out m d L hc (k0_off6_inb L h1) p hp (tile_body.sl.dma0_1 m d L) rfl))) $$ Ho'
    isplitl [Hi' Ho]
    · isplitl [Hi']; · iexact Hi'
      iexact Ho
    isplitl [Hsi Hb Hbufs]
    · isplitl [Hsi]; · iexists _; iexact Hsi
      isplitl [Hb]; · iexists _; iexact Hb
      iexact Hbufs
    isplitl [HsF HsW HsZ Hsems]
    · isplitl [HsF]; · iexact HsF
      isplitl [HsW]; · iexact HsW
      isplitl [HsZ]; · iexact HsZ
      iexact Hsems
    iexists _
    isplitr
    on_goal 2 => iexact HO
    ipureintro
    exact only_local W _ _
  · have h1 : ¬ k0_cond1 L = 1#1 := fun h => hc ((cond1_iff L).mp h)
    have hl : 2 * (L 1).val + (L 0).val = 31 := by have := core_lt L; omega
    have h2 : lastW L = 1#1 := (lastW_iff L).mpr hl
    ihave Ho' := (Entails.of_eq (pts_last (F := F) d L hl _).symm) $$ Ho
    sl_exec
    sl_step
    ihave Ho := (Entails.of_eq ((pts_last (F := F) d L hl _).trans
      (pointsTo_congr fun p hp => last_out m d L hl p hp (tile_body.sl.dma0_2 m d L) rfl))) $$ Ho'
    isplitl [Hi' Ho]
    · isplitl [Hi']; · iexact Hi'
      iexact Ho
    isplitl [Hsi Hb Hbufs]
    · isplitl [Hsi]; · iexists _; iexact Hsi
      isplitl [Hb]; · iexists _; iexact Hb
      iexact Hbufs
    isplitl [HsF HsW HsZ Hsems]
    · isplitl [HsF]; · iexact HsF
      isplitl [HsW]; · iexact HsW
      isplitl [HsZ]; · iexact HsZ
      iexact Hsems
    iexists _
    isplitr
    on_goal 2 => iexact HO
    ipureintro
    exact only_local W _ _

end Cert.Proof.KernelIdeal

end
-- ==== Proof.ILaunch.lean ====
/-
  The mask kernel's launch: how the one call's arrays are dealt to the SparseCores and their tasks and come back, and the program's run.
-/
module

public import proofs.«01_k».proof.Proof.ITile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type}

local notation "𝕄" => MT nD τ sig (HIx 1) (Elt F) ℕ UU ℕ

variable (m : (ℓ : Loc nD τ sig) → Buf (Elt F) ℓ) [FloatOps F] (ρ : Dev nD → PrngReg)

/-! ## The tasks -/

/-- The coordinates of task `s` of SparseCore `c`. -/
def coordsV (c : Fin (grid0.bound 0)) (s : Fin (grid0.bound 1)) : grid0.Coords := fun
  | 0 => c
  | 1 => s
  | ⟨_ + 2, h⟩ => absurd h (Nat.not_lt.2 (Nat.le_add_left _ _))

/-- What a task of the call runs: the kernel's body at its coordinates, on the whole arrays and buffers. -/
theorem defs₀_vector (c : Fin τ.nSC) (s : Fin τ.nSub) :
    defs₀ (F := F) (.scVector c s) 0 ()
      = SparseCore.onTile hcore0 hsub0 (fun c s => cc0__mask_kernel (coordsV c s) iV (Memref.isWhole_whole _) oV (Memref.isWhole_whole _)
          sI (Memref.isWhole_whole _) sB (Memref.isWhole_whole _) cc0_scratch2 cc0_scoped0 cc0_scoped1) ⟨⟩ c s := rfl

omit [FloatOps F] in
/-- A thread whose waits are its earlier ones and schedule-free ones has, in particular, no wait of another call. -/
theorem waits_of_call {t : Thread nD τ} {O : CellTallies nD τ sig (HIx 1)} {W : Waits sig (HIx 1)} (q : Fin 1) :
    iprop(∃ W', ⌜∀ p ∈ W', p ∈ W ∨ p.2 = none⌝ ∗ owes t O W')
      ⊢ (iprop(∃ W', ⌜∀ p ∈ W', p ∈ W ∨ p.2 = none ∨ p.2 = some q⌝ ∗ owes t O W') : sProp 𝕄) := by
  iintro ⟨%V, %hV, HV⟩
  iexists V
  isplitr [HV]
  · ipureintro
    intro p hp
    rcases hV p hp with h | h
    · exact Or.inl h
    · exact Or.inr (Or.inl h)
  iexact HV

set_option maxRecDepth 1024 in
/-- Every task of the call does what the call's dealing asks of it. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ =>
    sep_mono_right (sep_mono_right (sep_mono_right (waits_of_call 0))))

/-! ## The dealing -/

omit [FloatOps F] in
/-- A SparseCore's half of the mask is its sixteen tasks' parts; the mask is the two halves. -/
theorem half_tiles (d : Dev nD) (c : Fin 2) (f : Buf (Elt F) (oLoc d)) :
    (oLoc d ↦[half c.val]{fullShare} f : sProp 𝕄) = bigSep Finset.univ fun i : Fin 16 => oLoc d ↦[tile c.val i.val]{fullShare} f := by
  rw [← tiles_cover c, pointsTo_biUnion Finset.univ (ℓ := oLoc d) (fun s : Fin 16 => tile c.val s.val) (tiles_disjoint c.val)]
omit [FloatOps F] in
/-- The mask is the two SparseCores' halves. -/
theorem mask_halves (d : Dev nD) (f : Buf (Elt F) (oLoc d)) :
    (oLoc d ↦{fullShare} f : sProp 𝕄) = bigSep Finset.univ fun c : Fin 2 => oLoc d ↦[half c.val]{fullShare} f := by
  rw [← pointsTo_biUnion Finset.univ (ℓ := oLoc d) (fun c : Fin 2 => half c.val) halves_disjoint, halves_cover]

/-- What a SparseCore takes and gives back, dealt to its tasks and collected from them; a remainder of its read share stays with it. -/
theorem vecSplit : (K (F := F)).VecSplit' (P m) 0 := by
  intro d c
  have e (f : Buf (Elt F) (oLoc d)) : (bigSep Finset.univ fun i : Fin ((K (F := F)).nSub 0) =>
        iprop((iLoc d ↦{qT c.val i.val} m (iLoc d)) ∗ oLoc d ↦[tile c.val i.val]{fullShare} f) : sProp 𝕄)
      = iprop((bigSep Finset.univ fun i : Fin 16 => iLoc d ↦{Transfers.shareTok (qC c.val) 16 i} m (iLoc d))
          ∗ oLoc d ↦[half c.val]{fullShare} f) := by
    rw [half_tiles d (c : Fin 2) f, ← bigSep_sep']
    rfl
  show iprop((iLoc d ↦{qC c.val} m (iLoc d)) ∗ oLoc d ↦[half c.val]{fullShare} m (oLoc d)) ⊢ |={Set.univ}=> iprop(
      (bigSep Finset.univ fun i : Fin ((K (F := F)).nSub 0) =>
        iprop((iLoc d ↦{qT c.val i.val} m (iLoc d)) ∗ oLoc d ↦[tile c.val i.val]{fullShare} m (oLoc d)))
      ∗ ((bigSep Finset.univ fun i : Fin ((K (F := F)).nSub 0) =>
          iprop((iLoc d ↦{qT c.val i.val} m (iLoc d)) ∗ oLoc d ↦[tile c.val i.val]{fullShare} out m d))
          -∗ iprop((iLoc d ↦{qC c.val} m (iLoc d)) ∗ oLoc d ↦[half c.val]{fullShare} out m d)))
  rw [e, e]
  iintro ⟨Hi, Ho⟩
  ihave Hi' := (Transfers.pointsTo_toks_split (qC c.val) 16) $$ Hi
  icases Hi' with ⟨Hr, Hi⟩
  imodintro
  isplitl [Hi Ho]
  · isplitl [Hi]; · iexact Hi
    iexact Ho
  iintro ⟨Hi, Ho⟩
  isplitr [Ho]
  · iapply (Transfers.pointsTo_toks_join (qC c.val) 16)
    isplitl [Hr]; · iexact Hr
    iexact Hi
  iexact Ho

/-- What the call takes of the two arrays, and what it gives back, both SparseCores together. -/
theorem cores_eq (d : Dev nD) (f : Buf (Elt F) (oLoc d)) :
    (bigSep Finset.univ fun c : Fin ((K (F := F)).nCore 0) =>
        iprop((iLoc d ↦{qC c.val} m (iLoc d)) ∗ oLoc d ↦[half c.val]{fullShare} f) : sProp 𝕄)
      = iprop((bigSep Finset.univ fun c : Fin 2 => iLoc d ↦{Transfers.shareTok fullShare 2 c} m (iLoc d)) ∗ oLoc d ↦{fullShare} f) := by
  rw [mask_halves d f, ← bigSep_sep']
  rfl
/-- Before the call: the mask's array as it was at launch; -/
theorem st0_eq (d : Dev nD) : (bigSep Finset.univ fun c : Fin ((K (F := F)).nCore 0) => (P m).st 0 d c)
    = iprop((bigSep Finset.univ fun c : Fin 2 => iLoc d ↦{Transfers.shareTok fullShare 2 c} m (iLoc d)) ∗ oLoc d ↦{fullShare} m (oLoc d)) :=
  cores_eq m d (m (oLoc d))
/-- and after it: the mask. -/
theorem dn0_eq (d : Dev nD) : (bigSep Finset.univ fun c : Fin ((K (F := F)).nCore 0) => (P m).dn 0 d c)
    = iprop((bigSep Finset.univ fun c : Fin 2 => iLoc d ↦{Transfers.shareTok fullShare 2 c} m (iLoc d)) ∗ oLoc d ↦{fullShare} out m d) :=
  cores_eq m d (out m d)

/-! ## The launch element -/

/-- The handshakes at their start, and no counter. -/
def u₀ : UU := (initOf (K (F := F)).hsCells (K (F := F)).hsToks, 1)

/-- The launch element gives the handshakes their start; no device and no thread is given anything else. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr
  · rw [show (bigSep Finset.univ fun _ : Dev nD => iprop(emp)) = (iprop(emp) : sProp 𝕄) from bigSep_emp_const _]; iempintro
  rw [show (bigSep Finset.univ fun thr : Thread nD τ => bigSep Finset.univ fun q : Fin 1 => (P m).x q thr) = (iprop(emp) : sProp 𝕄) from
    (bigSep_congr fun _ _ => bigSep_emp_const _).trans (bigSep_emp_const _)]
  iempintro

/-! ## The program on the TensorCore -/

omit [FloatOps F] in
/-- The TensorCore's buffers are the identifiers and the mask. -/
theorem unscopedBufs_eq (d : Dev nD) (W : (b : Ref sig .tc) → Buf (Elt F) ((d.tc : Thread nD τ).loc b)) :
    (unscopedBufs d W : sProp 𝕄) = iprop((iLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the program ends with: the identifiers as they were, and the mask. -/
abbrev FIN (d : Dev nD) : sProp 𝕄 := iprop((iLoc d ↦{fullShare} m (iLoc d)) ∗ oLoc d ↦{fullShare} out m d)

/-- The program of device `d`'s TensorCore: the one call, from the two arrays back to them. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Ho⟩, Hts, -⟩, -⟩
  ihave Hi' := (Transfers.pointsTo_toks_split fullShare 2) $$ Hi
  icases Hi' with ⟨Hr, Hi⟩
  iapply ((K (F := F)).wp_run (D (F := F)) 𝒱 (EH := EH) (P := P m) κ d 0) $$ [Hst Hr Hi Ho Hb Hts]
  isplitr; · iexact Hctx
  isplitl [Hst]; · iexact Hst
  isplitl [Hi Ho]
  · rw [st0_eq]
    isplitl [Hi]; · iexact Hi
    iexact Ho
  iintro ⟨Hst, Hdn⟩
  ihave Hdn' := (Entails.of_eq (dn0_eq m d)) $$ Hdn
  icases Hdn' with ⟨Hi, Ho⟩
  imodintro
  isplitl [Hst]; · iexact Hst
  isplitr [Hb Hts]
  · isplitl [Hr Hi]
    · iapply (Transfers.pointsTo_toks_join fullShare 2)
      isplitl [Hr]; · iexact Hr
      iexact Hi
    iexact Ho
  isplitl [Hb] <;> iassumption

/-- The last state's memory: the mask in the result's array, the identifiers as at launch. -/
def fq (d : Dev nD) (s' : Phys nD τ sig (Elt F)) : Prop := s'.mem.mem (oLoc d) = out m d ∧ s'.mem.mem (iLoc d) = m (iLoc d)

/-- What the program ends with determines the memory so. -/
theorem hfin (d : Dev nD) (s' : Phys nD τ sig (Elt F)) : iprop(FIN m d ∗ SI s') ⊢ (⌜fq m d s'⌝ : sProp 𝕄) := by
  iintro ⟨⟨Hi, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (SI_pointsTo_agree (st := s') (ℓ := oLoc d) (I := Finset.univ) (q := fullShare) (f := out m d)) $$ [HSI Ho]
  · isplitl [HSI] <;> iassumption
  icases H with %h2
  ipureintro
  exact ⟨funext fun i => h2 i (Finset.mem_univ i), funext fun i => h1 i (Finset.mem_univ i)⟩

/-! ## The program's run -/

/-- Every device ends with the mask of its identifiers, the identifiers unchanged, and no semaphore counts anything. -/
def QC : PUnit × MemSt nD τ sig (Elt F) → Prop := fun r =>
  (∀ c : Dev nD, r.2.mem (oLoc c) = out m c ∧ r.2.mem (iLoc c) = m (iLoc c)) ∧ r.2.sem = fun _ => 0

/-- From any launch memory the program ends, without fault, in such a state. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- From any launch memory, whatever the identifiers, the program ends with them unchanged and no semaphore counting anything. -/
theorem frame : Cert.quiescent_KernelIdeal := fun m ρ _ =>
  (θ_run Cert.KernelIdeal.defs _ _).mono (fun _ h => ⟨fun c => (h.1 c).2, h.2⟩) (run_main (F := Ideal) m ρ)

end Cert.Proof.KernelIdeal

end
-- ==== Proof.Reference.lean ====
/-
  The reference's value: the ones added up at every identifier, cut off at 1.0, are the mask of the identifiers when none is negative.
-/
module

public import proofs.«01_k».proof.Proof.KLaunch
public import proofs.«01_k».proof.Proof.Gen.ReferenceIdeal.Run
public import Idealize.ShloMosaic.Lib.Routing.OpsPair
public import Idealize.ShloMosaic.Lib.IdealHost

@[expose] public section

noncomputable section

namespace Cert.Proof.Reference

open Cert.ReferenceIdeal Cert.ReferenceIdeal.Gen
open Idealize.ShloMosaic Idealize.SL.Sem
open Cert.Proof

/-- The identifiers as the scatter takes them: a negative one wrapped round, each a row of its own. -/
abbrev wrapped (ids : IVec S16384 32) : IVec S16384x1 32 :=
  broadcastInDim S16384x1 ![0] bcast_S16384_S16384x1_0
    (select (cmpi .slt ids (broadcastInDim S16384 ![] bcast_S_S16384 (constantI S_ 32 0#32)))
      (addi ids (broadcastInDim S16384 ![] bcast_S_S16384 (constantI S_ 32 1000000#32))) ids)

/-- Where identifier `j`'s one lands: at position `p` exactly when `j`'s row holds `p`. -/
theorem lands (idx : IVec S16384x1 32) (j : S16384.Idx) (p : S1000000.Idx) (r : S16384x1.Idx) (h0 : (r 0).val = (j 0).val) :
    scatter_S1000000_S16384x1_S16384_n_0_0_1.resultIdx? j idx = some p ↔ (idx r).toInt = ((p 0).val : Int) := by
  have hs : scatter_S1000000_S16384x1_S16384_n_0_0_1.start j idx 0 = (idx r).toInt := by
    unfold ScatterDims.start
    rw [dif_pos (by exact List.mem_singleton.mpr rfl)]
    refine congrArg (fun i => (idx i).toInt) (funext fun b => Fin.ext ?_)
    match b with
    | ⟨0, _⟩ => exact h0.symm
    | ⟨1, _⟩ =>
      have h1 : (r 1).val < 1 := (r 1).isLt
      show 0 = (r 1).val
      omega
  have hw : scatter_S1000000_S16384x1_S16384_n_0_0_1.window j 0 = 0 := by
    unfold ScatterDims.window
    rw [dif_neg (fun h => (of_decide_eq_true (List.mem_filter.1 h).2) (List.mem_singleton.mpr rfl))]
  rw [Routing.resultIdx?_eq_some]
  constructor
  · intro h
    have := h 0
    rw [hs, hw] at this
    simpa using this
  · intro h a
    obtain rfl : a = 0 := Subsingleton.elim _ _
    rw [hs, hw]
    simpa using h

/-- A row of its own for each of 16384 values: row `r` holds value `j`. -/
theorem row_apply {α : Type} (x : S16384.Idx → α) (j : S16384.Idx) (r : S16384x1.Idx) (h0 : (r 0).val = (j 0).val) :
    broadcastInDim S16384x1 ![0] bcast_S16384_S16384x1_0 x r = x j := by
  unfold broadcastInDim
  refine congrArg x (funext fun a => Fin.ext ?_)
  obtain rfl : a = 0 := Subsingleton.elim _ _
  rw [dif_neg (by decide)]
  exact h0

/-- An identifier that is not negative is not wrapped round. -/
theorem wrapped_apply (ids : IVec S16384 32) (hpos : ∀ j, (ids j).toNat < 2147483648) (j : S16384.Idx) (r : S16384x1.Idx)
    (h0 : (r 0).val = (j 0).val) : wrapped ids r = ids j := by
  unfold wrapped
  rw [row_apply _ j r h0]
  exact Routing.wrap_of_lt (ids j) (ids j + 1000000#32) (hpos j)

/-- The reference's result at identifiers none of which is negative: their mask. -/
theorem value (ids : IVec S16384 32) (hpos : ∀ j, (ids j).toNat < 2147483648) :
    minimumf (F := Ideal) (φ := .f32)
      (Host.scatterAdd (F := Ideal) (φ := .f32) scatter_S1000000_S16384x1_S16384_n_0_0_1
        (broadcastInDim S1000000 ![] bcast_S_S1000000 (constant S_ .f32 0x00000000#32)) (wrapped ids)
        (broadcastInDim S16384 ![] bcast_S_S16384 (constant S_ .f32 0x3F800000#32)))
      (broadcastInDim S1000000 ![] bcast_S_S1000000 (constant S_ .f32 0x3F800000#32))
      = Marks.mask (Scalar.ofBits (F := Ideal) .f32 0x3F800000#32) (Scalar.ofBits .f32 0x00000000#32) ids := by
  classical
  funext p
  have hl : ∀ j : S16384.Idx, scatter_S1000000_S16384x1_S16384_n_0_0_1.resultIdx? j (wrapped ids) = some p ↔ (ids j).toNat = (p 0).val := by
    intro j
    obtain ⟨r, h0⟩ : ∃ r : S16384x1.Idx, (r 0).val = (j 0).val :=
      ⟨fun a => match a with | ⟨0, _⟩ => ⟨(j 0).val, (j 0).isLt⟩ | ⟨1, _⟩ => ⟨0, Nat.one_pos⟩, rfl⟩
    rw [lands _ j p _ h0, wrapped_apply ids hpos j _ h0, BitVec.toInt_eq_toNat_of_lt (by have := hpos j; omega)]
    omega
  show min (Ideal.ofBits .f32 0x00000000#32 + ∑ j ∈ Finset.univ.filter
      (fun j => scatter_S1000000_S16384x1_S16384_n_0_0_1.resultIdx? j (wrapped ids) = some p), Ideal.ofBits .f32 0x3F800000#32)
      (Ideal.ofBits .f32 0x3F800000#32) = if ∃ j, (ids j).toNat = (p 0).val then Ideal.ofBits .f32 0x3F800000#32 else Ideal.ofBits .f32 0x00000000#32
  rw [Ideal.ofBits_one_f32, Ideal.ofBits_zero_f32, zero_add, Finset.filter_congr fun j _ => hl j]
  by_cases h : ∃ j, (ids j).toNat = (p 0).val
  · rw [if_pos h]
    obtain ⟨j, hj⟩ := h
    exact min_eq_right (Finset.single_le_sum (f := fun _ : S16384.Idx => (1 : EReal)) (fun _ _ => zero_le_one) (Finset.mem_filter.mpr ⟨Finset.mem_univ j, hj⟩))
  · rw [if_neg h, Finset.filter_eq_empty_iff.mpr fun j _ hj => h ⟨j, hj⟩, Finset.sum_empty]
    exact min_eq_left zero_le_one

end Cert.Proof.Reference

end
-- ==== Proof.lean ====
/-
  The proof of `Cert.Claim`: the kernel's run in both readings (`Proof/KLaunch.lean`, `Proof/ILaunch.lean`), the reference's run and value
  (`Proof/Reference.lean`), and from them the frames and the equality of the two results.
-/
module

public import proofs.«01_k».proof.Defs
public import proofs.«01_k».proof.Proof.Reference
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

instance preFacts : Cert.Pre_ids_not_negative.Facts where
  bcast_S_S16384 := by decide

/-- The precondition, read on the identifiers' words: each is below 2^31. -/
theorem ids_small (m : (ℓ : Loc Cert.KernelIdeal.nD Cert.KernelIdeal.τ Cert.KernelIdeal.sig) → Buf (Elt Ideal) ℓ)
    (h : Cert.Pre_KernelIdeal_ids_not_negative m) (c : Dev Cert.KernelIdeal.nD) (j : Cert.KernelIdeal.S16384.Idx) :
    (m (KernelIdeal.iLoc c) j : BitVec 32).toNat < 2147483648 := by
  have bit (p : Bool) : (BitVec.ofBool p = 1#1) ↔ p = true := by cases p <;> decide
  have key : ∀ v : BitVec 32, IntOp.cmpi .sge v 0#32 = 1#1 → v.toNat < 2147483648 := by
    intro v e
    simp only [IntOp.cmpi, bit, BitVec.sle_eq_decide, decide_eq_true_eq, BitVec.toInt_eq_toNat_cond, BitVec.toNat_ofNat,
      Nat.reducePow, Nat.reduceMod] at e
    omega
  have e := congrFun (h c) j
  simp only [Cert.Pre_ids_not_negative.fn, cmpi, broadcastInDim, constantI] at e
  exact key _ e

/-- The reference ends with its identifiers unchanged; it has no semaphore. -/
theorem frame_r (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- Over the extended reals the kernel and the reference end with the same array, the mask of the identifiers, when none is negative. -/
theorem algebraic : Cert.algebraic_KernelIdeal_ReferenceIdeal_pre_ids_not_negative := by
  intro m g m' g' hpre hagree
  refine ⟨fun c => KernelIdeal.out (F := Ideal) m c,
    (θ_run Cert.KernelIdeal.defs _ _).mono (fun _ h c => h.1 c) (KernelIdeal.run_main (F := Ideal) m g), ?_⟩
  refine (θ_run Cert.ReferenceIdeal.defs _ _).mono (fun _ h c => ⟨(h c).1.trans ?_, (h c).2⟩) (Cert.ReferenceIdeal.Value.run (F := Ideal) m' g')
  rw [hagree c]
  exact Reference.value (m (KernelIdeal.iLoc c)) (ids_small m hpre c)

/-- Everything the certificate claims. -/
theorem claim : Cert.Claim :=
  ⟨Cert.Kernel.Gen.facts, Cert.KernelIdeal.Gen.facts, Cert.ReferenceIdeal.Gen.facts, preFacts,
    Kernel.frame, KernelIdeal.frame, fun m g _ => KernelIdeal.frame m g trivial, fun m g _ => frame_r m g, fun m g _ => frame_r m g,
    trivial, algebraic⟩

end Cert.Proof

end
